-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 1024]⟩ ⟨2, ![2048, 1024]⟩ (Layout.meshBlock [2, 2, 2] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024 : Shape := ⟨1, ![1024]⟩
abbrev S2x1024 : Shape := ⟨2, ![2, 1024]⟩
abbrev S_ : Shape := ⟨0, ![]⟩
abbrev S1024x1 : Shape := ⟨2, ![1024, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S2x1024, .f32⟩
  | .local _ .vmem, ⟨0, _⟩ => ⟨S1024x1024, .f32⟩
  | .local _ .vmem, ⟨1, _⟩ => ⟨S1024x1024, .f32⟩
  | .local _ .vmem, ⟨2, _⟩ => ⟨S1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_23 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_22 : BitVec 32 := 4#32
  let v47 : BitVec 32 := Scalar.muli v9 c4_i32_22
  let v48 : BitVec 32 := Scalar.addi c0_i32_23 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v49 : BitVec 32 := Scalar.muli v5 c2_i32_24
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v51 : BitVec 32 := Scalar.muli v8 c1_i32_25
  let v52 : BitVec 32 := Scalar.addi v50 v51
  v52.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2x1024 : Shape := ⟨2, ![2, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .i32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S2x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Exchange.lean ====
/-
# The exchange each device takes part in

The kernel pairs device `c` with the device whose `x` coordinate on the 2 × 2 × 2 mesh is the other one. Each of the
two signals the other's barrier semaphore, waits for its own, sends its two partial rows into the other's receive
scratch, and waits for the send and for the rows coming the other way. Three semaphores on each device take part. This
module names them, says what every partial row holds, and writes the handshake as a schedule of one round per
semaphore.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Pointwise.Index

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Two copies of the rounds algebra: one for the staging pipeline, one for the exchange. -/
abbrev UU : Type := UR sig nD τ × UR sig nD τ

local notation "𝕄" => MT nD τ sig Unit (Elt F) ℕ UU ℕ

/-- Where the pipeline's rounds live. -/
abbrev EP : Emb (UR sig nD τ) (MT nD τ sig Unit (Elt F) ℕ UU ℕ) := embL
/-- Where the exchange's rounds live. -/
abbrev ER : Emb (UR sig nD τ) (MT nD τ sig Unit (Elt F) ℕ UU ℕ) := embR

variable (m : (ℓ : Loc nD τ sig) → Buf (Elt F) ℓ)

/-! ## Partners -/

/-- The partner of device `4x + 2y + z` is `4(1 - x) + 2y + z`. -/
def peer (c : Dev nD) : Dev nD := ⟨(c.val + 4) % 8, Nat.mod_lt _ (by decide)⟩

/-- Being partners is mutual. -/
theorem peer_peer (c : Dev nD) : peer (peer c) = c := by revert c; decide

/-- The device a signal goes to, as the program computes it, is the partner. -/
theorem signal_dev (c : Dev nD) : (⟨k0_dev1 c, k0_dev1_lt c⟩ : Dev nD) = peer c :=
  Fin.ext ((k0_dev1_eq c).trans (by revert c; decide))
/-- So is the device the copy goes to. -/
theorem copy_dev (c : Dev nD) : (⟨k0_dev2 c, k0_dev2_lt c⟩ : Dev nD) = peer c :=
  Fin.ext ((k0_dev2_eq c).trans (by revert c; decide))

/-! ## Buffers and semaphores -/

abbrev xBuf : Memref sig .tc .vmem S1024x1024 .f32 := Memref.whole cc0_stg0_0
abbrev dyBuf : Memref sig .tc .vmem S1024x1024 .f32 := Memref.whole cc0_stg1_0
abbrev outBuf : Memref sig .tc .vmem S2x1024 .f32 := Memref.whole cc0_stg3_0
/-- The scratch a device gathers its own partial rows in. -/
abbrev accBuf : Memref sig .tc .vmem S2x1024 .f32 := Memref.whole cc0_scratch0
/-- The scratch its partner's rows land in. -/
abbrev recvBuf : Memref sig .tc .vmem S2x1024 .f32 := Memref.whole cc0_scratch1

/-- The barrier semaphore. -/
abbrev barS : Sem sig := (SemArray.scalar (sig.barrier 0 rfl) : Sems sig S_).sem

/-- The three semaphores of the exchange: 0 the barrier, 1 the send's, 2 the receive's. -/
abbrev slot : Fin 3 → SemLoc sig
  | 0 => .reg barS
  | 1 => .dma cc0_scratch2.sem
  | 2 => .dma cc0_scratch3.sem

/-- Semaphore `k` on device `c`. -/
abbrev cell (c : Dev nD) (k : Fin 3) : GSem nD τ sig := ((c : Thread nD τ), slot k)

/-- Which of the three a semaphore is, if any. -/
def which (s : SemLoc sig) : Option (Fin 3) :=
  if s = slot 0 then some 0 else if s = slot 1 then some 1 else if s = slot 2 then some 2 else none

theorem which_slot (k : Fin 3) : which (slot k) = some k := by revert k; decide

theorem slot_inj {k k' : Fin 3} (h : slot k = slot k') : k = k' :=
  Option.some.inj ((which_slot k).symm.trans ((congrArg which h).trans (which_slot k')))

theorem cell_inj {c c' : Dev nD} {k k' : Fin 3} (h : cell c k = cell c' k') : c = c' ∧ k = k' :=
  ⟨congrArg (fun g : GSem nD τ sig => g.1.1) h, slot_inj (congrArg Prod.snd h)⟩

/-- The credit one copy of the two rows is worth. -/
abbrev rows : ℕ := recvBuf.view.dmaCredit

theorem rows_pos : 0 < rows := View.dmaCredit_pos _ (by decide)

/-- How much the one duty of semaphore `k` is worth: one signal, or one copy. -/
def worth : Fin 3 → ℕ
  | 0 => 1
  | 1 => rows
  | 2 => rows

theorem worth_pos (k : Fin 3) : 0 < worth k :=
  match k with
  | 0 => Nat.one_pos
  | 1 => rows_pos
  | 2 => rows_pos

/-! ## Contents -/

/-- Device `c`'s block of `x`, staged. -/
def xIn (c : Dev nD) : (cc0_stg0_0 : Ref sig .tc).ty.Contents (Elt F) :=
  (win0_0.blk (0 : Fin 1)).view.read (Elt F) (m ((c : Thread nD τ).loc main_arg0))
/-- Device `c`'s block of `dy`, staged. -/
def dyIn (c : Dev nD) : (cc0_stg1_0 : Ref sig .tc).ty.Contents (Elt F) :=
  (win0_1.blk (0 : Fin 1)).view.read (Elt F) (m ((c : Thread nD τ).loc main_arg1))
/-- Device `c`'s copy of the third argument, staged; the body never reads it. -/
def scaleIn (c : Dev nD) : (cc0_stg2_0 : Ref sig .tc).ty.Contents (Elt F) :=
  (win0_2.blk (0 : Fin 1)).view.read (Elt F) (m ((c : Thread nD τ).loc main_arg2))

/-- The two one-row vectors `u` and `v`, one above the other. -/
def stack (u v : Vec F S1x1024 .f32) : (cc0_scratch0 : Ref sig .tc).ty.Contents (Elt F) :=
  fun i => if (i (0 : Fin 2)).val = 0 then u (ix2 0 (i (1 : Fin 2))) else v (ix2 0 (i (1 : Fin 2)))

/-- Device `c`'s two partial rows: its block's sums for the scale above its block's sums for the shift. -/
def partials (c : Dev nD) : (cc0_scratch0 : Ref sig .tc).ty.Contents (Elt F) :=
  stack (k0_pay2 (k0_pay7 (xIn m c) (dyIn m c)) (k0_pay8 (xIn m c))) (k0_pay3 (k0_pay5 (dyIn m c)))

/-- What device `c` leaves in the result: its rows plus its partner's. -/
def result (c : Dev nD) : (cc0_stg3_0 : Ref sig .tc).ty.Contents (Elt F) :=
  k0_pay4 (partials m c) (partials m (peer c))

/-- Device `c`'s gathering scratch holds `f`. -/
def accHolds (c : Dev nD) (f : Buf (Elt F) (accBuf.view.loc (c : Thread nD τ))) : sProp 𝕄 :=
  accBuf.view.loc (c : Thread nD τ) ↦[accBuf.view.set]{fullShare} f
/-- Device `c`'s receive scratch holds `f`. -/
def recvHolds (c : Dev nD) (f : Buf (Elt F) (recvBuf.view.loc (c : Thread nD τ))) : sProp 𝕄 :=
  recvBuf.view.loc (c : Thread nD τ) ↦[recvBuf.view.set]{fullShare} f

omit [FloatOps F] in
theorem accHolds_eq (c : Dev nD) (f : Buf (Elt F) ((c : Thread nD τ).loc cc0_scratch0)) :
    accHolds c f = (((c : Thread nD τ).loc cc0_scratch0) ↦{fullShare} f : sProp 𝕄) := by
  unfold accHolds; rw [View.set_whole]
omit [FloatOps F] in
theorem recvHolds_eq (c : Dev nD) (f : Buf (Elt F) ((c : Thread nD τ).loc cc0_scratch1)) :
    recvHolds c f = (((c : Thread nD τ).loc cc0_scratch1) ↦{fullShare} f : sProp 𝕄) := by
  unfold recvHolds; rw [View.set_whole]

omit [FloatOps F] in
instance accHolds_storable (c : Dev nD) (f) : BI.Storable (upEmb : UEmb _ 𝕄) (accHolds (F := F) c f) := by
  unfold accHolds; infer_instance
omit [FloatOps F] in
instance recvHolds_storable (c : Dev nD) (f) : BI.Storable (upEmb : UEmb _ 𝕄) (recvHolds (F := F) c f) := by
  unfold recvHolds; infer_instance

/-- The copy writes over whatever the receive scratch held exactly what the sender's scratch holds. -/
theorem copied (c : Dev nD) (fd : Buf (Elt F) (recvBuf.view.loc (c : Thread nD τ)))
    (fs : (cc0_scratch0 : Ref sig .tc).ty.Contents (Elt F)) :
    recvBuf.view.write (Elt F) fd (accBuf.view.read (Elt F) fs) Finset.univ = fs := by
  show (View.whole cc0_scratch1).write (Elt F) fd ((View.whole cc0_scratch0).read (Elt F) fs) Finset.univ = fs
  rw [View.read_whole]; exact View.write_whole_univ _ _ _

/-! ## The schedule -/

/-- What the one duty of semaphore `k` on device `c` hands over. The barrier's: the partner's receive scratch, and that
    its receive semaphore has started. The send's: the device's own rows back. The receive's: the partner's rows. -/
def hands (k : Fin 3) (c : Dev nD) : sProp 𝕄 :=
  match k with
  | 0 => iprop((∃ f, recvHolds (peer c) f) ∗ reached ER (cell (peer c) 2) 0)
  | 1 => accHolds c (partials m c)
  | 2 => recvHolds c (partials m (peer c))

instance hands_storable (k : Fin 3) (c : Dev nD) : BI.Storable (upEmb : UEmb _ 𝕄) (hands (F := F) m k c) := by
  fin_cases k
  · show BI.Storable upEmb iprop((∃ f, recvHolds (peer c) f) ∗ reached ER (cell (peer c) 2) 0); infer_instance
  · show BI.Storable upEmb (accHolds c (partials m c)); infer_instance
  · show BI.Storable upEmb (recvHolds c (partials m (peer c))); infer_instance

/-- One round, one duty, on each of the three semaphores of every TensorCore; nothing elsewhere. -/
def sched : Rounds.Schedule (GSem nD τ sig) Unit 𝕄 where
  duties g r := if r = 0 ∧ g.1.2 = .tc ∧ (which g.2).isSome then {()} else ∅
  unitless _ := False
  amount g _ _ := ((which g.2).map worth).getD 1
  payload g _ _ := match which g.2 with
    | some k => hands m k g.1.1
    | none => iprop(emp)
  amount_pos g _ _ _ := by
    cases which g.2 with
    | none => exact Nat.one_pos
    | some k => exact worth_pos k

instance sched_storable (g : GSem nD τ sig) (r : ℕ) (d : Unit) :
    BI.Storable (upEmb : UEmb _ 𝕄) ((sched (F := F) m).payload g r d) := by
  show BI.Storable upEmb (match which g.2 with | some k => hands m k g.1.1 | none => iprop(emp))
  split <;> infer_instance

section At
variable (c : Dev nD) (k : Fin 3)

/-- Round 0 of each of the three has its one duty; -/
theorem duties_at : (sched (F := F) m).duties (cell c k) 0 = {()} :=
  if_pos ⟨rfl, rfl, by show (which (slot k)).isSome; rw [which_slot]; rfl⟩
/-- and no later round has any. -/
theorem duties_after (g : GSem nD τ sig) : ∀ r, 1 ≤ r → (sched (F := F) m).duties g r = ∅ :=
  fun _ hr => if_neg fun h => by omega
/-- The duty is worth `worth k`. -/
theorem amount_at (u : Unit) : (sched (F := F) m).amount (cell c k) 0 u = worth k := by
  show ((which (slot k)).map worth).getD 1 = worth k
  rw [which_slot]; rfl
/-- The round is complete at `worth k`. -/
theorem expect_at : (sched (F := F) m).expect (cell c k) 0 = worth k := by
  unfold Schedule.expect Schedule.amountOf; rw [duties_at, Finset.sum_singleton, amount_at]
/-- The duty hands over `hands m k c`. -/
theorem payload_at (u : Unit) : (sched (F := F) m).payload (cell c k) 0 u = hands m k c := by
  show (match which (slot k) with | some k => hands m k c | none => iprop(emp)) = hands m k c
  rw [which_slot]
/-- The waiter of the whole round gets that and nothing more. -/
theorem rest_at : bigSep ((sched (F := F) m).duties (cell c k) 0 \ ∅) (fun u => (sched (F := F) m).payload (cell c k) 0 u)
    = hands m k c := by
  rw [Finset.sdiff_empty, duties_at, bigSep_singleton, payload_at]

end At

/-! ## What a device owes, and in which order it may wait -/

/-- The duty of the partner's semaphore `k`, owed. -/
def due (c : Dev nD) (k : Fin 3) : CellTallies nD τ sig Unit := tallyAt (cell (peer c) k) () (worth k)

/-- At launch a device owes its partner the rows and one barrier signal. -/
def owed₀ (c : Dev nD) : CellTallies nD τ sig Unit := due c 2 + due c 0

theorem due_apply (c d : Dev nD) (k j : Fin 3) :
    due d j (cell c k) () = if d = peer c ∧ j = k then worth k else 0 := by
  unfold due
  rw [tallyAt_apply]
  by_cases h : d = peer c ∧ j = k
  · obtain ⟨rfl, rfl⟩ := h
    rw [if_pos ⟨by rw [peer_peer], rfl⟩, if_pos ⟨rfl, rfl⟩]
  · rw [if_neg h, if_neg]
    rintro ⟨h1, -⟩
    obtain ⟨h2, h3⟩ := cell_inj h1
    exact h ⟨by rw [h2, peer_peer], h3.symm⟩

theorem due_pos {c : Dev nD} {k : Fin 3} {g : GSem nD τ sig} {u : Unit} (h : 0 < due c k g u) : g = cell (peer c) k := by
  unfold due at h
  rw [tallyAt_apply] at h
  by_contra hn
  rw [if_neg (fun h' => hn h'.1)] at h
  exact Nat.lt_irrefl 0 h

theorem owed₀_pos {c : Dev nD} {g : GSem nD τ sig} {u : Unit} (h : 0 < owed₀ c g u) :
    g = cell (peer c) 2 ∨ g = cell (peer c) 0 := by
  unfold owed₀ at h
  rw [Pi.add_apply, Finsupp.add_apply] at h
  rcases Nat.eq_zero_or_pos (due c 2 g u) with h2 | h2
  · rw [h2, Nat.zero_add] at h; exact .inr (due_pos h)
  · exact .inl (due_pos h2)

/-- Every TensorCore semaphore is tracked. -/
def L (g : GSem nD τ sig) : Finset Unit := if g.1.2 = .tc then {()} else ∅
/-- The rows are waited for last, the barrier before them, everything else first. -/
def lv (g : GSem nD τ sig) (_ : Unit) : ℕ :=
  match which g.2 with
  | some 0 => 1
  | some 2 => 2
  | _ => 0

theorem L_of_ne (g : GSem nD τ sig) (h : g.1.2 ≠ .tc) : L g = ∅ := if_neg h
theorem mem_L (c : Dev nD) (sm : SemLoc sig) (u : Unit) : u ∈ L ((c : Thread nD τ), sm) := by
  unfold L; rw [if_pos rfl]; exact Finset.mem_singleton_self _
theorem lv_cell (c : Dev nD) (k : Fin 3) (u : Unit) : lv (cell c k) u = match k with | 0 => 1 | 1 => 0 | 2 => 2 := by
  show (match which (slot k) with | some 0 => 1 | some 2 => 2 | _ => 0) = _
  rw [which_slot]; revert k; decide

omit [FloatOps F] in
/-- Whatever a device owes in the course of the exchange, it may wait on a semaphore outside the exchange. -/
theorem may_stage (c : Dev nD) (q : DmaSem sig) (hq : which (.dma q) = none) (O : CellTallies nD τ sig Unit)
    (hO : O = owed₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L c _ _)
      (fun g u hg => by rcases owed₀_pos hg with rfl | rfl <;> exact mem_L _ _ _)
      (fun p hp => by
        rw [Finset.mem_singleton.mp hp]
        show (match which (.dma q) with | some 0 => 1 | some 2 => 2 | _ => 0) ≤ 0
        rw [hq])
      (fun g u hg => by
        rcases owed₀_pos hg with rfl | rfl <;> rw [lv_cell] <;> decide)
  · rw [MayWait_zero]; iintro -; iempintro

omit [FloatOps F] in
/-- Owing the rows, a device may wait at its own barrier. -/
theorem may_barrier (c : Dev nD) : (levAts L lv : sProp 𝕄) ⊢ MayWait (c : Thread nD τ) (slot 0) () (due c 2) :=
  MayOwe.of_cut (L := L) (lev := lv) 1 (fun p hp => by rw [Finset.mem_singleton.mp hp]; exact mem_L c _ _)
    (fun g u hg => by rw [due_pos hg]; exact mem_L _ _ _)
    (fun p hp => by rw [Finset.mem_singleton.mp hp]; exact (lv_cell c 0 ()).le)
    (fun g u hg => by rw [due_pos hg, lv_cell]; decide)

end Cert.KernelIdeal.Exchange

end
-- ==== Proof.Body.lean ====
/-
# One device's part in the exchange

Run from its staged blocks, device `c` leaves its own two partial rows plus its partner's in the result's staging
buffer, and all three semaphores of the exchange at zero. This holds for any float values.
-/
module

public import proofs.«01_k».proof.Proof.Exchange
public import Idealize.ShloMosaic.Lib.WritesUnit

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What a device starts with and ends with -/

/-- The device whose semaphore `k` device `c` completes: itself for the send's, its partner for the others. -/
def payee (c : Dev nD) (k : Fin 3) : Dev nD := if k = 1 then c else peer c

/-- Every semaphore of the exchange is governed by the schedule, and has started. -/
def known (K : Dev nD × Fin 3 → ℕ) : sProp 𝕄 :=
  bigSep Finset.univ fun ck : Dev nD × Fin 3 =>
    iprop(cellInv ER (sched m) (K ck) (cell ck.1 ck.2) ∗ reached ER (cell ck.1 ck.2) 0)

instance known_persistent (K : Dev nD × Fin 3 → ℕ) : BI.Persistent (known (F := F) m K) := by
  unfold known; infer_instance

/-- One semaphore's share of `known`. -/
theorem known_at (K : Dev nD × Fin 3 → ℕ) (c : Dev nD) (k : Fin 3) :
    known (F := F) m K ⊢ iprop(cellInv ER (sched m) (K (c, k)) (cell c k) ∗ reached ER (cell c k) 0) :=
  bigSep_elim (Finset.mem_univ ((c, k) : Dev nD × Fin 3))

/-- The part of a device in the exchange that is its alone: it waits on its own three semaphores, and it performs the
    duties of the three it completes. -/
def part (c : Dev nD) : sProp 𝕄 :=
  bigSep Finset.univ fun k : Fin 3 => iprop(atPos ER (cell c k) 0 ∅ 0 ∗ dutyTok ER (cell (payee c k) k) 0 ())

theorem over_three (Φ : Fin 3 → sProp 𝕄) : bigSep Finset.univ Φ = iprop(Φ 0 ∗ Φ 1 ∗ Φ 2) :=
  bigSep_univ_eq_bigSepL [0, 1, 2] (by decide) (by decide) Φ

/-- What device `c` starts the exchange with. -/
def ready (c : Dev nD) : sProp 𝕄 :=
  iprop((∃ K, known m K ∗ part c) ∗ cred (tallyAt (cell c 0) () (worth 0)) ∗ cred (tallyAt (cell c 2) () (worth 2))
    ∗ levAts L lv)

/-- Before the body: that, and the two scratches at whatever they hold. -/
def before (c : Dev nD) : sProp 𝕄 := iprop(ready m c ∗ (∃ f, accHolds c f) ∗ ∃ f, recvHolds c f)
/-- After it: the device's own rows, its partner's rows, and the three semaphores at zero. -/
def after (c : Dev nD) : sProp 𝕄 :=
  iprop(accHolds c (partials m c) ∗ recvHolds c (partials m (peer c)) ∗ bigSep Finset.univ fun k : Fin 3 => semVal (cell c k) 0)

/-- The pipeline's data: the arrays as launched, the staging buffers after the one point, and what is owed around it. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => dyIn m c
    | ⟨2, _⟩ => scaleIn m c
    | ⟨3, _⟩ => result m c
  Φ t := match t with
    | ⟨0, _⟩ => before m c
    | ⟨_ + 1, _⟩ => after m c
  q _ := fullShare
  owed t := match t with
    | ⟨0, _⟩ => owed₀ c
    | ⟨_ + 1, _⟩ => 0

abbrev 𝒱₀ : Variants := Variants.none

/-! ## Loads and stores of whole buffers, and of one row -/

theorem origin : (![0, 0] : Fin 2 → Nat) = fun _ => 0 := funext fun a => by fin_cases a <;> rfl

abbrev sq : Rect S1024x1024 := Rect.unit (s := S1024x1024) ![0, 0] S1024x1024.size inb_S1024x1024_S1024x1024_0_0
abbrev both : Rect S2x1024 := Rect.unit (s := S2x1024) ![0, 0] S2x1024.size inb_S2x1024_S2x1024_0_0
abbrev top : Rect S2x1024 := Rect.unit (s := S2x1024) ![0, 0] S1x1024.size inb_S2x1024_S1x1024_0_0
abbrev bottom : Rect S2x1024 := Rect.unit (s := S2x1024) ![1, 0] S1x1024.size inb_S2x1024_S1x1024_1_0

theorem read_x (f : (cc0_stg0_0 : Ref sig .tc).ty.Contents (Elt F)) : xBuf.view.readAt (Elt F) sq.toLoadRect f = f :=
  Memref.readAt_unit_zero (Elt F) cc0_stg0_0 origin _ f
theorem read_dy (f : (cc0_stg1_0 : Ref sig .tc).ty.Contents (Elt F)) : dyBuf.view.readAt (Elt F) sq.toLoadRect f = f :=
  Memref.readAt_unit_zero (Elt F) cc0_stg1_0 origin _ f
theorem read_acc (f : (cc0_scratch0 : Ref sig .tc).ty.Contents (Elt F)) : accBuf.view.readAt (Elt F) both.toLoadRect f = f :=
  Memref.readAt_unit_zero (Elt F) cc0_scratch0 origin _ f
theorem read_recv (f : (cc0_scratch1 : Ref sig .tc).ty.Contents (Elt F)) : recvBuf.view.readAt (Elt F) both.toLoadRect f = f :=
  Memref.readAt_unit_zero (Elt F) cc0_scratch1 origin _ f
theorem write_out (f w : (cc0_stg3_0 : Ref sig .tc).ty.Contents (Elt F)) :
    (outBuf.access both : View sig .tc _ _ _).write (Elt F) f w Finset.univ = w :=
  Memref.write_access_unit_zero_univ (Elt F) cc0_stg3_0 origin _ f w

/-- Read after storing `u` in the top row and then `v` in the bottom one: row 0 is `u`, row 1 is `v`, -/
theorem read_rows (w : View sig .tc .vmem S2x1024 .f32) (f : w.ty.Contents (Elt F)) (u v : Vec F S1x1024 .f32) (r : Fin 2)
    (l : Fin 1024) : w.read (Elt F) (w.writes (Elt F) f [⟨bottom, v⟩, ⟨top, u⟩]) (ix2 r l)
      = if r.val = 0 then u (ix2 0 l) else v (ix2 0 l) := by
  match r with
  | 0 =>
    rw [if_pos (show (0 : Fin 2).val = 0 from rfl)]
    exact (View.read_writes_cons_rows_of_not_mem w f (o := 1) (W := 1) inb_S2x1024_S1x1024_1_0 v [⟨top, u⟩] (ix2 0 l) rfl rfl
      (.inl Nat.one_pos)).trans
      (View.read_writes_cons_rows_of_mem w f (o := 0) inb_S2x1024_S1x1024_0_0 u [] (ix2 0 l) (ix2 0 l) rfl rfl rfl)
  | 1 =>
    rw [if_neg (show ¬ (1 : Fin 2).val = 0 from Nat.one_ne_zero)]
    exact View.read_writes_cons_rows_of_mem w f (o := 1) inb_S2x1024_S1x1024_1_0 v [⟨top, u⟩] (ix2 1 l) (ix2 0 l) rfl rfl rfl

/-- so the read is the stack of the two, -/
theorem read_stack (f : (cc0_scratch0 : Ref sig .tc).ty.Contents (Elt F)) (u v : Vec F S1x1024 .f32) :
    (View.whole cc0_scratch0).read (Elt F) ((View.whole cc0_scratch0).writes (Elt F) f [⟨bottom, v⟩, ⟨top, u⟩]) = stack u v := by
  refine funext fun (i : S2x1024.Idx) => ?_
  rw [eq_ix2 i]
  exact read_rows (View.whole cc0_scratch0) f u v (i 0) (i 1)

/-- and so is all the scratch holds, whatever it held before. -/
theorem write_rows (f : (cc0_scratch0 : Ref sig .tc).ty.Contents (Elt F)) (u v : Vec F S1x1024 .f32) :
    (accBuf.access bottom : View sig .tc _ _ _).write (Elt F)
      ((accBuf.access top : View sig .tc _ _ _).write (Elt F) f u Finset.univ) v Finset.univ = stack u v := by
  have h := read_stack f u v
  rw [View.read_whole, View.writes_cons, View.writes_cons, View.writes_nil] at h
  exact h

/-- The two stores leave the gathering scratch holding the device's partial rows. -/
theorem gathered (c : Dev nD) :
    ((accBuf.access bottom : View sig .tc _ _ _).loc (c : Thread nD τ) ↦{fullShare}
        stack (k0_pay2 (k0_pay7 (xIn m c) (dyIn m c)) (k0_pay8 (xIn m c))) (k0_pay3 (k0_pay5 (dyIn m c))) : sProp 𝕄)
      ⊢ accHolds c (partials m c) :=
  Entails.of_eq (accHolds_eq c (partials m c)).symm

/-- What a device's signal hands its partner: the device's own receive scratch. -/
theorem hands_barrier (c : Dev nD) :
    hands (F := F) m 0 (peer c) = iprop((∃ f, recvHolds c f) ∗ reached ER (cell c 2) 0) := by
  show iprop((∃ f, recvHolds (peer (peer c)) f) ∗ reached ER (cell (peer (peer c)) 2) 0) = _
  rw [peer_peer]

/-! ## The copy -/

/-- The copy of a device's rows into its partner's receive scratch performs two duties at once: the device's own
    send, which will give the rows back, and the partner's receive, which will hand it the rows. -/
theorem wp_copy (K : Dev nD × Fin 3 → ℕ) (c n : Dev nD) (hn : n = peer c)
    {hsc : (recvBuf : Memref sig (Dev.tc n : Thread nD τ).2.kind .vmem S2x1024 .f32).view.ref.isScScratch = false}
    {hsrc : accBuf.view.WordExact} {hdst : recvBuf.view.WordExact}
    {hsem : DmaTarget.Typed .vmem (.dma cc0_scratch3.sem) (.remote (Dev.tc n : Thread nD τ) recvBuf (.dma cc0_scratch2.sem) hsc)}
    {α : Type} {Q : α → sProp 𝕄} {k : PUnit → Prog (TpuEff nD τ sig (Elt F) Λ₀ .tc) α}
    (old : Buf (Elt F) (recvBuf.view.loc (peer c : Thread nD τ))) (W : Waits sig Unit) :
    iprop(cellInv ER (sched m) (K (c, 1)) (cell c 1) ∗ cellInv ER (sched m) (K (peer c, 2)) (cell (peer c) 2)
        ∗ accHolds c (partials m c) ∗ recvHolds (peer c) old ∗ owes (c : Thread nD τ) (due c 2) W
        ∗ dutyTok ER (cell c 1) 0 () ∗ reached ER (cell c 1) 0 ∗ dutyTok ER (cell (peer c) 2) 0 () ∗ reached ER (cell (peer c) 2) 0)
      ⊢ iprop(((cred (tallyAt (cell c 1) () rows) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma accBuf (.remote (Dev.tc n : Thread nD τ) recvBuf (.dma cc0_scratch2.sem) hsc) (.dma cc0_scratch3.sem)
                hsrc hdst hsem) k) Q) := by
  subst hn
  unfold accHolds recvHolds due
  exact Rounds.wp_send_pointsTo 𝒱₀ ER (sched m) (c : Thread nD τ) none (κ₁ := K (c, 1)) (κ₂ := K (peer c, 2))
    (r₁ := 0) (r₂ := 0) (d₁ := ()) (d₂ := ()) (fd := old)
    (by rw [duties_at m c 1]; exact Finset.mem_singleton_self _) (by rw [duties_at m (peer c) 2]; exact Finset.mem_singleton_self _)
    () () rows rfl (amount_at m c 1 ()) (amount_at m (peer c) 2 ()) 0 (by rw [zero_add]; rfl) (W := W)
    (by rw [payload_at m c 1]; exact BI.Entails.refl _)
    (by rw [payload_at m (peer c) 2]; show _ ⊢ recvHolds (peer c) (partials m (peer (peer c)))
        unfold recvHolds; rw [copied, peer_peer])

/-! ## The body -/

/-- A staging buffer of device `c` holding `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

/-- What the pipeline hands the body at its one point, -/
def entry (c : Dev nD) : sProp 𝕄 :=
  iprop(before m c ∗ (dats m 0 c).owesAt () t0_0.castSucc
    ∗ (∃ d, staged c cc0_stg0_0 ((dats m 0 c).before (0 : Fin 4) t0_0 d))
    ∗ (∃ d, staged c cc0_stg1_0 ((dats m 0 c).before (1 : Fin 4) t0_0 d))
    ∗ (∃ d, staged c cc0_stg2_0 ((dats m 0 c).before (2 : Fin 4) t0_0 d))
    ∗ (∃ d, staged c cc0_stg3_0 ((dats m 0 c).before (3 : Fin 4) t0_0 d)))
/-- and what it takes back. -/
def exit (c : Dev nD) : sProp 𝕄 :=
  iprop(after m c ∗ (dats m 0 c).owesAt () t0_0.succ
    ∗ staged c cc0_stg0_0 (xIn m c) ∗ staged c cc0_stg1_0 (dyIn m c) ∗ staged c cc0_stg2_0 (scaleIn m c)
    ∗ staged c cc0_stg3_0 (result m c))

set_option maxHeartbeats 1600000 in
/-- The body takes `entry` to `exit`. -/
theorem body_runs (c : Dev nD) :
    entry m c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_scratch0) (Memref.isWhole_whole _) (Memref.whole cc0_scratch1) (Memref.isWhole_whole _)
        cc0_scratch2 cc0_scratch3) (fun _ => exit m c) := by
  simp only [cc0_body_eq_skeleton]
  unfold cc0_body_skel
  simp only [k0_part1_eq_skeleton]
  unfold k0_part1_skel
  simp only [semSignalWord, semWaitWord, Prog.lift, Prog.bind_op, Prog.bind_ret, Prog.pure_eq_ret, wp_deviceId]
  unfold entry before ready part
  rw [over_three]
  iintro ⟨⟨⟨⟨%K, #Hk, ⟨Hp0, Ht0⟩, ⟨Hp1, Ht1⟩, ⟨Hp2, Ht2⟩⟩, Hc0, Hc2, #Hlev⟩, ⟨%fa, Hacc⟩, ⟨%fr, Hrecv⟩⟩, Ho, ⟨%d0, %g0, %hg0, Hx⟩, ⟨%d1, %g1, %hg1, Hdy⟩, ⟨%d2, %g2, %hg2, Hsc⟩, ⟨%d3, %g3, %hg3, Hout⟩⟩
  have h0 : g0 = xIn m c := by rw [hg0]; unfold Dat.before; rw [if_pos (fetch0_0 t0_0)]; rfl
  have h1 : g1 = dyIn m c := by rw [hg1]; unfold Dat.before; rw [if_pos (fetch0_1 t0_0)]; rfl
  have h2 : g2 = scaleIn m c := by rw [hg2]; unfold Dat.before; rw [if_pos (fetch0_2 t0_0)]; rfl
  subst h0 h1 h2
  ihave H := (known_at m K c 0) $$ Hk
  icases H with ⟨#Hi0, #Hr0⟩
  ihave H := (known_at m K c 1) $$ Hk
  icases H with ⟨#Hi1, #Hr1⟩
  ihave H := (known_at m K c 2) $$ Hk
  icases H with ⟨#Hi2, #Hr2⟩
  ihave H := (known_at m K (peer c) 0) $$ Hk
  icases H with ⟨#HiP0, #HrP0⟩
  ihave H := (known_at m K (peer c) 2) $$ Hk
  icases H with ⟨#HiP2, #HrP2⟩
  rw [show payee c 0 = peer c from rfl, show payee c 1 = c from rfl, show payee c 2 = peer c from rfl]
  unfold Dat.owesAt Pipeline.owesWithin
  icases Ho with ⟨%W, %hW, HO⟩
  rw [show (dats m 0 c).owed t0_0.castSucc = owed₀ c from rfl]
  unfold owed₀
  simp only [signal_dev c]
  -- the signal to the partner's barrier hands over this device's receive scratch
  iapply (Rounds.wp_signal 𝒱₀ ER (sched m) (c : Thread nD τ) none (dst := (peer c : Thread nD τ)) (κ := K (peer c, 0))
      (by rw [duties_at m (peer c) 0]; exact Finset.mem_singleton_self _) ((amount_at m (peer c) 0 ()).trans (by decide)) ()
      (due c 2) rfl) $$ [HO Ht0 Hrecv]
  · isplitr; · iexact HiP0
    isplitl [HO]; · iexact HO
    isplitl [Ht0]; · iexact Ht0
    isplitl [Hrecv]
    · rw [payload_at m (peer c) 0, hands_barrier]
      isplitl [Hrecv]; · iexists fr; iexact Hrecv
      iexact Hr2
    · iexact HrP0
  iintro HO
  -- the staged blocks, and the two rows computed from them
  iapply (wp_load 𝒱₀ (c : Thread nD τ) none Set.univ (m := xBuf) (Finset.subset_univ _)) $$ Hx; iintro Hx
  rw [read_x]
  iapply (wp_load 𝒱₀ (c : Thread nD τ) none Set.univ (m := dyBuf) (Finset.subset_univ _)) $$ Hdy; iintro Hdy
  rw [read_dy]
  ihave Hacc := (Entails.of_eq (accHolds_eq c fa)) $$ Hacc
  iapply (wp_load 𝒱₀ (c : Thread nD τ) none Set.univ (m := accBuf) (Finset.subset_univ _)) $$ Hacc; iintro Hacc
  iapply (wp_store 𝒱₀ (c : Thread nD τ) none Set.univ (m := accBuf) (r := top) (Mk := Finset.univ) (Finset.subset_univ _)) $$ Hacc; iintro Hacc
  iapply (wp_load 𝒱₀ (c : Thread nD τ) none Set.univ (m := accBuf) (Finset.subset_univ _)) $$ Hacc; iintro Hacc
  iapply (wp_store 𝒱₀ (c : Thread nD τ) none Set.univ (m := accBuf) (r := bottom) (Mk := Finset.univ) (Finset.subset_univ _)) $$ Hacc; iintro Hacc
  rw [write_rows]
  ihave Hacc := (gathered m c) $$ Hacc
  -- the wait at this device's own barrier: the partner's receive scratch
  iapply (Rounds.wp_wait_rest_token 𝒱₀ ER (sched m) (c : Thread nD τ) none (κ := K (c, 0))
      (wpE_semWait_eq 𝒱₀ (c : Thread nD τ) none Set.univ) (Set.mem_univ _) () (O := due c 2) (W := W) (R := 0) (m := 0) (T := ∅)
      (by rw [expect_at m c 0]; decide)) $$ [Hc0 HO Hp0]
  · isplitr; · iexact Hi0
    isplitl [Hc0]; · iexact Hc0
    isplitl [HO]; · iexact HO
    isplitr; · iapply (may_barrier c); iexact Hlev
    iexact Hp0
  iintro ⟨HO, Hp0, -, Hpay⟩
  ihave Hpay := (Entails.of_eq (rest_at m c 0)) $$ Hpay
  unfold hands
  icases Hpay with ⟨⟨%old, Hfar⟩, -⟩
  -- the copy
  iapply (wp_copy m K c _ (copy_dev c) old (insert (slot 0, ()) W)) $$ [Hacc Hfar HO Ht1 Ht2]
  · isplitr; · iexact Hi1
    isplitr; · iexact HiP2
    isplitl [Hacc]; · iexact Hacc
    isplitl [Hfar]; · iexact Hfar
    isplitl [HO]; · iexact HO
    isplitl [Ht1]; · iexact Ht1
    isplitr; · iexact Hr1
    isplitl [Ht2]; · iexact Ht2
    iexact HrP2
  iintro ⟨Hc1, HO⟩
  -- its send is waited for, and the copy coming the other way
  iapply (Rounds.wp_wait_rest_token 𝒱₀ ER (sched m) (c : Thread nD τ) none (κ := K (c, 1))
      (wpE_waitDma2_eq 𝒱₀ (c : Thread nD τ) none Set.univ) (Set.mem_univ _) () (O := 0) (W := insert (slot 0, ()) W) (R := 0) (m := 0) (T := ∅)
      (by rw [Nat.zero_add, expect_at m c 1]; rfl)) $$ [Hc1 HO Hp1]
  · isplitr; · iexact Hi1
    isplitl [Hc1]; · iexact Hc1
    isplitl [HO]; · iexact HO
    isplitr; · rw [MayWait_zero]; iempintro
    iexact Hp1
  iintro ⟨HO, Hp1, -, Hacc⟩
  ihave Hacc := (Entails.of_eq (rest_at m c 1)) $$ Hacc
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (slot 1, ()) (insert (slot 0, ()) W)) (R := 0) (m := 0) (T := ∅)
      (by rw [Nat.zero_add, expect_at m c 2]; rfl)) $$ [Hc2 HO Hp2]
  · isplitr; · iexact Hi2
    isplitl [Hc2]; · iexact Hc2
    isplitl [HO]; · iexact HO
    isplitr; · rw [MayWait_zero]; iempintro
    iexact Hp2
  iintro ⟨HO, Hp2, -, Hrecv⟩
  ihave Hrecv := (Entails.of_eq (rest_at m c 2)) $$ Hrecv
  -- no semaphore has a further round: each is closed at zero
  imod (Rounds.cell_close ER (sched m) (Set.mem_univ (K (c, 0))) (fun h => h) (R := 0 + 1) (duties_after m (cell c 0))) $$ [Hp0] with Hz0
  · isplitr; · iexact Hi0
    iexact Hp0
  imod (Rounds.cell_close ER (sched m) (Set.mem_univ (K (c, 1))) (fun h => h) (R := 0 + 1) (duties_after m (cell c 1))) $$ [Hp1] with Hz1
  · isplitr; · iexact Hi1
    iexact Hp1
  imod (Rounds.cell_close ER (sched m) (Set.mem_univ (K (c, 2))) (fun h => h) (R := 0 + 1) (duties_after m (cell c 2))) $$ [Hp2] with Hz2
  · isplitr; · iexact Hi2
    iexact Hp2
  -- the sum of the two pairs of rows
  unfold hands
  ihave Hacc := (Entails.of_eq (accHolds_eq c (partials m c))) $$ Hacc
  ihave Hrecv := (Entails.of_eq (recvHolds_eq c (partials m (peer c)))) $$ Hrecv
  iapply (wp_load 𝒱₀ (c : Thread nD τ) none Set.univ (m := accBuf) (Finset.subset_univ _)) $$ Hacc; iintro Hacc
  rw [read_acc]
  iapply (wp_load 𝒱₀ (c : Thread nD τ) none Set.univ (m := recvBuf) (Finset.subset_univ _)) $$ Hrecv; iintro Hrecv
  rw [read_recv]
  iapply (wp_load 𝒱₀ (c : Thread nD τ) none Set.univ (m := outBuf) (Finset.subset_univ _)) $$ Hout; iintro Hout
  iapply (wp_store 𝒱₀ (c : Thread nD τ) none Set.univ (m := outBuf) (r := both) (Mk := Finset.univ) (Finset.subset_univ _)) $$ Hout; iintro Hout
  rw [write_out, wp_ret]; imodintro
  unfold exit after Dat.owesAt Pipeline.owesWithin
  rw [over_three, accHolds_eq, recvHolds_eq, show (dats m 0 c).owed t0_0.succ = 0 from rfl]
  isplitl [Hacc Hrecv Hz0 Hz1 Hz2]
  · isplitl [Hacc]; · iexact Hacc
    isplitl [Hrecv]; · iexact Hrecv
    isplitl [Hz0]; · iexact Hz0
    isplitl [Hz1] <;> iassumption
  isplitl [HO]
  · iexists (insert (slot 2, ()) (insert (slot 1, ()) (insert (slot 0, ()) W)))
    isplitr; · ipureintro; exact fun _ _ => Or.inl trivial
    iexact HO
  isplitl [Hx]
  · iexists _; isplitr; · (ipureintro; rfl)
    iexact Hx
  isplitl [Hdy]
  · iexists _; isplitr; · (ipureintro; rfl)
    iexact Hdy
  isplitl [Hsc]
  · iexists _; isplitr; · (ipureintro; rfl)
    iexact Hsc
  iexists _; isplitr; · (ipureintro; rfl)
  iexact Hout

/-- The body meets what the pipeline asks of it on every device. -/
theorem body_obligation (c : Dev nD) : BodyObligation (dats (F := F) m 0 c) (defs₀ (F := F)) 𝒱₀ () Set.univ := fun t => by
  rw [fin_N0 t, bigSep_W0, bigSep_W0]
  simp only [owns_staged]
  exact body_runs m c

end Cert.KernelIdeal.Exchange

end
-- ==== Proof.Run.lean ====
/-
# Every device's run

The eight bodies started together: each device receives its part in the exchange, all of them terminate, and every final
state holds `result` in each device's result array, the arguments as launched, and every semaphore counter at zero.
This holds for any float values.
-/
module

public import proofs.«01_k».proof.Proof.Body
public import Idealize.ShloMosaic.Lib.Pipeline.CollectiveSegs

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores, and the tokens minted for their duties -/

/-- The two scoped semaphores of the exchange. -/
abbrev own2 : Fin 2 → SemLoc sig := fun | 0 => slot 1 | 1 => slot 2

theorem own2_facts : Pipeline.OwnSemFacts cfg0.spec own2 := by decide

/-- All semaphores of the exchange. -/
def cells : Finset (GSem nD τ sig) :=
  Finset.univ.map ⟨fun ck : Dev nD × Fin 3 => cell ck.1 ck.2, fun _ _ h => Prod.ext (cell_inj h).1 (cell_inj h).2⟩

theorem payee_inj {c c' : Dev nD} {k : Fin 3} (h : payee c k = payee c' k) : c = c' := by
  revert c c' k; decide

/-- One token for each duty, listed under the device that performs it. -/
def tokens : Finset (GSem nD τ sig × ℕ × Unit) :=
  Finset.univ.map ⟨fun ck : Dev nD × Fin 3 => (cell (payee ck.1 ck.2) ck.2, 0, ()), fun a b h => by
    obtain ⟨c, k⟩ := a
    obtain ⟨c', k'⟩ := b
    obtain ⟨h1, h2⟩ := cell_inj (congrArg Prod.fst h)
    dsimp only at h1 h2
    subst h2
    rw [payee_inj h1]⟩

/-- The launch's ghost state: the pipeline's, and the exchange's. -/
def seed : UU := (initOf (Pipeline.cells cfgs cellOf_inj) (Pipeline.launchToks cfgs cellOf_inj), initOf cells tokens)

/-- What the launch deals device `c`: its semaphores' first rounds, and its part. -/
def dealt (c : Dev nD) : sProp 𝕄 :=
  iprop((bigSep Finset.univ fun k : Fin 3 => iprop(roundState ER (sched m) (cell c k) 0 ∗ reached ER (cell c k) 0)) ∗ part c)

/-- Device `c`'s part, with the knowledge that every semaphore is governed by the schedule. -/
def joined (c : Dev nD) : sProp 𝕄 := iprop(∃ K, known m K ∗ part c)

theorem over_cells (Φ : GSem nD τ sig → sProp 𝕄) :
    bigSep cells Φ = bigSep Finset.univ fun c : Dev nD => bigSep Finset.univ fun k : Fin 3 => Φ (cell c k) := by
  unfold cells; rw [bigSep_map, bigSep_univ_prod]; rfl

theorem over_tokens (Φ : GSem nD τ sig × ℕ × Unit → sProp 𝕄) :
    bigSep tokens Φ = bigSep Finset.univ fun c : Dev nD => bigSep Finset.univ fun k : Fin 3 => Φ (cell (payee c k) k, 0, ()) := by
  unfold tokens; rw [bigSep_map, bigSep_univ_prod]; rfl

/-- The exchange's ghost state is what every device is dealt. -/
theorem deal : BI.own (ER (initOf cells tokens)) ⊢ (|==> bigSep Finset.univ (dealt m) : sProp 𝕄) := by
  iintro H
  imod (Rounds.fund ER (sched m) cells tokens) $$ H with ⟨Hst, Hr, Hat, Htok⟩
  imodintro
  ihave Hst := (Entails.of_eq (over_cells fun g => roundState ER (sched m) g 0)) $$ Hst
  ihave Hr := (Entails.of_eq (over_cells fun g => reached ER g 0)) $$ Hr
  ihave Hat := (Entails.of_eq (over_cells fun g => atPos ER g 0 ∅ 0)) $$ Hat
  ihave Htok := (Entails.of_eq (over_tokens fun x => dutyTok ER x.1 x.2.1 x.2.2)) $$ Htok
  unfold dealt part
  simp only [bigSep_sep']
  isplitl [Hst Hr]
  · isplitl [Hst] <;> iassumption
  · isplitl [Hat] <;> iassumption

theorem own_sems (c : Dev nD) :
    (Pipeline.ownSems0 (Ix := Unit) (Name := ℕ) (U := UU) (Lvl := ℕ) (Val := Elt F) (τ := τ) own2 c : sProp 𝕄)
      = iprop(semVal (cell c 1) 0 ∗ semVal (cell c 2) 0) := by
  rw [Pipeline.ownSems0_eq_of_list c own2 [0, 1] (by decide) (by decide)]; rfl

theorem barrier_sem (c : Dev nD) : (unscopedSems0 c : sProp 𝕄) = semVal (cell c 0) 0 := by
  unfold unscopedSems0; rw [bigSep_eq_bigSepL_of_eq [SemLoc.reg barS] (by decide) (by decide)]; rfl

/-- Put under the schedule, device `c`'s three semaphores are known to follow it. -/
theorem govern (c : Dev nD) :
    iprop(Pipeline.ownSems0 (Ix := Unit) (Name := ℕ) (U := UU) (Lvl := ℕ) (Val := Elt F) (τ := τ) own2 c ∗ unscopedSems0 c ∗ dealt m c)
      ⊢ |={Set.univ}=> iprop((bigSep Finset.univ fun k : Fin 3 =>
          iprop(∃ κ : ℕ, cellInv ER (sched m) κ (cell c k) ∗ reached ER (cell c k) 0)) ∗ part c) := by
  have step (k : Fin 3) : iprop(semVal (cell c k) 0 ∗ roundState ER (sched m) (cell c k) 0 ∗ reached ER (cell c k) 0)
      ⊢ (|={Set.univ}=> iprop(∃ κ : ℕ, cellInv ER (sched m) κ (cell c k) ∗ reached ER (cell c k) 0) : sProp 𝕄) := by
    iintro ⟨Hv, Hst, Hr⟩
    imod ((Rounds.body_intro ER (sched m) (cell c k)).trans inv_alloc) $$ [Hv Hst] with ⟨%κ, Hi⟩
    · isplitl [Hv] <;> iassumption
    imodintro
    iexists κ
    isplitl [Hi] <;> iassumption
  have gather : (bigSep Finset.univ fun k : Fin 3 =>
        iprop(semVal (cell c k) 0 ∗ roundState ER (sched m) (cell c k) 0 ∗ reached ER (cell c k) 0) : sProp 𝕄)
      = iprop((semVal (cell c 0) 0 ∗ semVal (cell c 1) 0 ∗ semVal (cell c 2) 0)
          ∗ bigSep Finset.univ fun k : Fin 3 => iprop(roundState ER (sched m) (cell c k) 0 ∗ reached ER (cell c k) 0)) := by
    rw [bigSep_sep', over_three fun k => semVal (cell c k) 0]
  rw [own_sems, barrier_sem]
  unfold dealt
  iintro ⟨⟨H1, H2⟩, H0, Hs, Hpart⟩
  imod (show (bigSep Finset.univ fun k : Fin 3 =>
        iprop(semVal (cell c k) 0 ∗ roundState ER (sched m) (cell c k) 0 ∗ reached ER (cell c k) 0))
      ⊢ (|={Set.univ}=> bigSep Finset.univ fun k : Fin 3 =>
          iprop(∃ κ : ℕ, cellInv ER (sched m) κ (cell c k) ∗ reached ER (cell c k) 0) : sProp 𝕄) from
    (bigSep_mono fun k _ => step k).trans (bigSep_fupd _ _)) $$ [H0 H1 H2 Hs] with Hi
  · rw [gather]
    isplitl [H0 H1 H2]
    · isplitl [H0]; · iexact H0
      isplitl [H1] <;> iassumption
    iexact Hs
  imodintro
  isplitl [Hi] <;> iassumption

/-- With every device's semaphores governed, every device knows it of all. -/
theorem share_knowledge :
    (bigSep Finset.univ fun c : Dev nD => iprop((bigSep Finset.univ fun k : Fin 3 =>
          iprop(∃ κ : ℕ, cellInv ER (sched m) κ (cell c k) ∗ reached ER (cell c k) 0)) ∗ part c) : sProp 𝕄)
      ⊢ bigSep Finset.univ (joined m) := by
  rw [bigSep_sep', ← bigSep_univ_prod fun ck : Dev nD × Fin 3 =>
    iprop(∃ κ : ℕ, cellInv ER (sched m) κ (cell ck.1 ck.2) ∗ reached ER (cell ck.1 ck.2) 0)]
  iintro ⟨Hi, Hpart⟩
  ihave H := (BI.bigSep_exists_pi Finset.univ fun (ck : Dev nD × Fin 3) (κ : ℕ) =>
    (iprop(cellInv ER (sched m) κ (cell ck.1 ck.2) ∗ reached ER (cell ck.1 ck.2) 0) : sProp 𝕄)) $$ Hi
  icases H with ⟨%K, Hi⟩
  iapply (show iprop(known m K ∗ bigSep Finset.univ part) ⊢ bigSep Finset.univ (joined m) from
    (sep_mono_left (BI.bigSep_of_persistent Finset.univ (known m K))).trans (by
      rw [← bigSep_sep']
      exact bigSep_mono fun c _ => show iprop(known m K ∗ part c) ⊢ joined m c from by
        unfold joined
        iintro H
        iexists K
        iexact H))
  isplitl [Hi]
  · unfold known; iexact Hi
  · iexact Hpart

theorem govern_all :
    (bigSep Finset.univ fun c => iprop(Pipeline.ownSems0 (Ix := Unit) (Name := ℕ) (U := UU) (Lvl := ℕ) (Val := Elt F) (τ := τ) own2 c
        ∗ unscopedSems0 c ∗ dealt m c) : sProp 𝕄) ⊢ |={Set.univ}=> bigSep Finset.univ (joined m) :=
  ((bigSep_mono fun c _ => govern m c).trans (bigSep_fupd _ _)).trans (BI.fupd_mono (share_knowledge m))

/-! ## The credit a device may wait on -/

theorem credit_at (c : Dev nD) (k : Fin 3) (hk : k = 0 ∨ k = 2) :
    tallyOn (cell c k) (launchCredit (Pipeline.owing owed₀) 0 (cell c k)) = (tallyAt (cell c k) () (worth k) : CellTallies nD τ sig Unit) := by
  have h (d : Dev nD) : owed₀ d (cell c k) () = if d = peer c then worth k else 0 := by
    unfold owed₀
    rw [Pi.add_apply, Finsupp.add_apply, due_apply, due_apply]
    by_cases hd : d = peer c <;> rcases hk with rfl | rfl <;> simp [hd]
  unfold tallyAt
  refine congrArg _ (Finsupp.ext fun u => ?_)
  cases u
  rw [Pipeline.launchCredit_owing, Finsupp.single_eq_same, Finset.sum_congr rfl fun d _ => h d,
    Finset.sum_ite_eq' Finset.univ (peer c) fun _ => worth k, if_pos (Finset.mem_univ _)]

/-- Of the launch's credit a device uses its barrier's and its receive semaphore's. -/
theorem credits (c : Dev nD) :
    (Pipeline.launchCred owed₀ c : sProp 𝕄) ⊢ iprop(cred (tallyAt (cell c 0) () (worth 0)) ∗ cred (tallyAt (cell c 2) () (worth 2))) := by
  unfold Pipeline.launchCred
  rw [bigSep_univ_at _ (slot 0), credit_at c 0 (.inl rfl)]
  refine sep_mono_right ?_
  rw [← credit_at c 2 (.inr rfl)]
  exact bigSep_elim (Finset.mem_erase.mpr ⟨by decide, Finset.mem_univ _⟩)

/-! ## Around the region -/

theorem enter (c : Dev nD) :
    iprop(Pipeline.unscopedRestP Pipeline.Prefetch.none cfg0.spec c (fun b => m ((c : Thread nD τ).loc b)) ∗ levAts L lv
        ∗ Pipeline.launchCred owed₀ c ∗ prngReg c (ρ c) ∗ joined m c)
      ⊢ |={Set.univ}=> iprop(ready m c ∗ emp) := by
  iintro ⟨-, Hlev, Hcr, -, Hj⟩
  ihave Hc := (credits (F := F) c) $$ Hcr
  icases Hc with ⟨H0, H2⟩
  imodintro
  unfold ready joined
  isplitl
  · isplitl [Hj]; · iexact Hj
    isplitl [H0]; · iexact H0
    isplitl [H2] <;> iassumption
  · iempintro

theorem before_body (c : Dev nD) :
    iprop(ready m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, ⟨%fa, Ha⟩, ⟨%fr, Hr⟩⟩
  isplitl [Hs]; · iexact Hs
  isplitl [Ha]
  · iexists fa; rw [accHolds_eq]; iexact Ha
  · iexists fr; rw [recvHolds_eq]; iexact Hr

theorem after_body (c : Dev nD) :
    (dats m 0 c).Φ (Fin.last cfg0.N) ⊢ iprop(unscopedSems0 c ∗ Pipeline.ownSems0 own2 c ∗ Pipeline.scopedRest cfg0.spec c) := by
  rw [show (dats m 0 c).Φ (Fin.last cfg0.N) = after m c from rfl, scopedRest0_eq, own_sems, barrier_sem]
  unfold after
  rw [over_three, accHolds_eq, recvHolds_eq]
  iintro ⟨Ha, Hr, H0, H1, H2⟩
  isplitl [H0]; · iexact H0
  isplitl [H1 H2]
  · isplitl [H1] <;> iassumption
  isplitl [Ha]
  · iexists (partials m c); iexact Ha
  · iexists (partials m (peer c)); iexact Hr

/-- The pipeline may wait on its staging semaphores whenever it does. -/
theorem may_wait (c : Dev nD) : (levAts L lv : sProp 𝕄) ⊢ Pipeline.cellsWaits cfgs (dats m) () 0 c :=
  Pipeline.cellsWaits_intro cfgs (dats m) () 0 c fun w s t =>
    may_stage c _ (by fin_cases w <;> fin_cases s <;> decide) _ (by
      rcases t with ⟨_ | _, ht⟩
      · exact Or.inl rfl
      · exact Or.inr rfl)

/-! ## The final arrays -/

theorem share_full (c : Dev nD) (w : Fin cfg0.W) : (dats m 0 c).share w = fullShare := by unfold Dat.share; split <;> rfl

/-- What window `w`'s array holds in the end. -/
abbrev final (c : Dev nD) (w : Fin cfg0.W) : Buf (Elt F) ((cfg0.win w).arr.view.loc (c : Thread nD τ)) := (dats m 0 c).arrAt w cfg0.N

/-- The result array holds `result`. -/
theorem final_out (c : Dev nD) : final m c (3 : Fin 4) = result m c := by
  refine ((dats m 0 c).arrAt_succ (3 : Fin 4) t0_0).trans ?_
  rw [if_pos (flush0_3 t0_0)]
  exact Memref.write_access_unit_zero_univ (Elt F) main_v1 (by funext a; fin_cases a <;> rfl) _ _ _

set_option maxRecDepth 8000 in
/-- Every weakly fair execution of the kernel from any memory with zero counters terminates, each window's array at
    `final`, and every semaphore counter at zero. -/
theorem runs : θ_run defs (onTc (τ := τ) (main (F := F))) ⟨m, fun _ => 0, ρ⟩
    (fun r => (∀ c : Dev nD, ∀ w : Fin cfg0.W, r.2.mem ((cfg0.win w).arr.view.loc (c : Thread nD τ)) = final m c w)
      ∧ r.2.sem = fun _ => 0) :=
  Pipeline.θ_run_region_owing_glob_pf (fun p => (cfgs p).toPCfg) (fun p => (cfgs p).toPCfg_adm) (dats m) () cellOf_inj (0 : Fin 1)
    winFacts0.to₀ own2_facts (Pipeline.PreFacts.none _) EP defs₀ 𝒱₀ m ρ main
    (hmain := fun _ => rfl)
    (hbody := fun c => (body_obligation m c)) (hne := fun w => by fin_cases w <;> exact Nat.succ_pos _) (harr := arr_whole0)
    (hstage := stage_whole0) (hshare := share_full m) (hdistinct := winFacts0.arr_inj)
    (O₀ := owed₀) (howed₀ := fun _ => rfl) (howedN := fun _ => rfl)
    (L := L) (lv := lv) (hL := L_of_ne) (hwaits := may_wait m)
    (G := dealt m) (G' := joined m) (u₀ := seed)
    (hu₀ := by
      unfold seed
      iintro Hu
      ihave H := (ownU_pair _ _) $$ Hu
      icases H with ⟨HP, HX⟩
      imod (deal m) $$ HX with HG
      imodintro
      isplitl [HP] <;> iassumption)
    (hglob := govern_all m)
    (hA := fun _ _ => rfl) (hpf := fun _ k => k.elim0)
    (X := ready m) (Y := fun c => unscopedSems0 c) (Z := fun _ => iprop(emp))
    (hX := enter m ρ) (hin := before_body m) (hout := after_body m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The staged block of `x` is all of the device's first argument; -/
theorem xIn_eq (c : Dev nD) : xIn m c = m ((c : Thread nD τ).loc main_arg0) :=
  Memref.read_access_unit_zero (Elt F) main_arg0 (by funext a; fin_cases a <;> rfl) _ _
/-- that of `dy` is all of its second. -/
theorem dyIn_eq (c : Dev nD) : dyIn m c = m ((c : Thread nD τ).loc main_arg1) :=
  Memref.read_access_unit_zero (Elt F) main_arg1 (by funext a; fin_cases a <;> rfl) _ _

/-- The kernel's run in full: every device's result array holds `result`, its three arguments hold what they held, and
    every semaphore counter is zero. -/
theorem outcome : θ_run defs (onTc (τ := τ) (main (F := F))) ⟨m, fun _ => 0, ρ⟩ (fun r =>
    (∀ c : Dev nD, r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => ⟨(h.1 c (3 : Fin 4)).trans (final_out m c),
    (h.1 c (0 : Fin 4)).trans ((dats m 0 c).arrAt_in (0 : Fin 4) rfl _),
    (h.1 c (1 : Fin 4)).trans ((dats m 0 c).arrAt_in (1 : Fin 4) rfl _),
    (h.1 c (2 : Fin 4)).trans ((dats m 0 c).arrAt_in (2 : Fin 4) rfl _)⟩, h.2⟩) (runs m ρ)

end Cert.KernelIdeal.Exchange

end
-- ==== Proof.Frames.lean ====
/-
# The three frames

The kernel as printed and its idealization are one text, so the run proved for any float values serves both. The
reference declares no semaphore, so its counters are all zero whatever it does.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.TcCoe Idealize.SL.Sem

variable {F : FTy → Type} [FloatOps F]

/-- The two printed kernels have the same entry function. -/
theorem main_same : Cert.Kernel.main (F := F) = Cert.KernelIdeal.main (F := F) := rfl

/-- The two printed kernels have the same table of bodies. -/
theorem bodies_same : Cert.Kernel.defs₀ (F := F) = Cert.KernelIdeal.defs₀ (F := F) := by
  unfold Cert.Kernel.defs₀ Cert.KernelIdeal.defs₀
  congr 1
  funext l a
  match l, a with
  | 0, (t, s) => rfl

/-- And so the same definitions around those bodies. -/
theorem defs_same : Cert.Kernel.defs (F := F) = Cert.KernelIdeal.defs (F := F) := by
  unfold Cert.Kernel.defs Cert.KernelIdeal.defs
  exact congrArg _ bodies_same

/-- The kernel as printed, on machine floats: it runs, its arguments end as they began, its semaphores at zero. -/
theorem kernel_frame : Cert.quiescent_Kernel := fun m g _ => by
  rw [main_same, defs_same]
  exact (θ_run _ _ _).mono (fun _ h => ⟨fun c => (h.1 c).2, h.2⟩) (Cert.KernelIdeal.Exchange.outcome m g)

/-- The idealized kernel: it runs, its arguments end as they began, its semaphores at zero. -/
theorem ideal_frame : Cert.quiescent_KernelIdeal := fun m g _ =>
  (θ_run _ _ _).mono (fun _ h => ⟨fun c => (h.1 c).2, h.2⟩) (Cert.KernelIdeal.Exchange.outcome m g)

/-- The reference: it runs, its arguments end as they began, and it has no semaphore. -/
theorem reference_frame : Cert.quiescent_ReferenceIdeal := fun m g _ =>
  (θ_run _ _ _).mono (fun r h => ⟨fun c => (h c).2, sem_eq_zero_of_no_sems rfl r.2⟩)
    (Cert.ReferenceIdeal.Value.run m g)

end Cert.Proof

end
-- ==== Proof.Row.lean ====
/-
# One row, over the extended reals

A row of 1024 numbers, its mean, its entries less the mean, the mean of their squares, and the two spellings of one over
the root of that mean plus a small constant: the kernel's reciprocal root and the reference's quotient.
-/
module

public import Idealize.ShloMosaic.Lib.Pointwise

@[expose] public section

noncomputable section

namespace Cert.Row

open Idealize.ShloMosaic
open scoped BigOperators

/-- The width of a row as both programs write it: the single-precision pattern of 1024. -/
def width : EReal := Ideal.ofBits .f32 0x44800000#32

/-- The small constant under the root, as both programs write it. -/
def eps : EReal := Ideal.ofBits .f32 0x3727C5AC#32

/-- The mean of a row. -/
def mean (v : Fin 1024 → EReal) : EReal := Ideal.div (∑ k, v k) width

/-- A row's entry less the row's mean. -/
def centred (v : Fin 1024 → EReal) (l : Fin 1024) : EReal := v l - mean v

/-- The mean of the squares of a row's centred entries. -/
def spread (v : Fin 1024 → EReal) : EReal := Ideal.div (∑ k, centred v k * centred v k) width

/-- The width is the real number 1024. -/
theorem width_eq : width = ((1024 : ℝ) : EReal) := by
  simp [width, Ideal.ofBits, Ideal.ieee, -EReal.coe_mul]
  norm_num

/-- The small constant is a positive real. -/
theorem eps_pos : ∃ e : ℝ, 0 < e ∧ eps = (e : EReal) := by
  refine ⟨10995116 * 2 ^ (-40 : ℤ), by positivity, ?_⟩
  simp [eps, Ideal.ofBits, Ideal.ieee, -EReal.coe_mul]

/-- A square is not negative, at the infinities too. -/
theorem square_nonneg (a : EReal) : 0 ≤ a * a := by
  induction a with
  | bot => simp
  | top => simp
  | coe r => exact_mod_cast mul_self_nonneg r

/-- The mean of the squares is not negative. -/
theorem spread_nonneg (v : Fin 1024 → EReal) : 0 ≤ spread v := by
  have hs : 0 ≤ ∑ k, centred v k * centred v k := Finset.sum_nonneg fun k _ => square_nonneg _
  unfold spread
  rw [width_eq, Ideal.div_coe (by norm_num)]
  exact mul_nonneg hs (by exact_mod_cast (by norm_num : (0 : ℝ) ≤ 1 / 1024))

/-- At a number that is not negative plus the small constant, one divided by the root is the reciprocal root: at a real
    both are the inverse of the real root, at infinity both are zero. -/
theorem one_over_root {s : EReal} (hs : 0 ≤ s) : Ideal.div 1 (Ideal.sqrt (s + eps)) = Ideal.rsqrt (s + eps) := by
  obtain ⟨e, he, h⟩ := eps_pos
  rw [h]
  induction s with
  | bot => exact absurd hs (by simp)
  | top =>
    rw [EReal.top_add_coe, Ideal.sqrt_top, Ideal.rsqrt_top]
    simp [Ideal.div]
  | coe r =>
    have hr : 0 ≤ r := by exact_mod_cast hs
    have hp : 0 < r + e := by linarith
    rw [← EReal.coe_add, Ideal.sqrt_coe, Ideal.rsqrt_coe, if_neg hp.not_gt, if_neg hp.not_gt, if_neg hp.ne',
      Ideal.div_coe (Real.sqrt_pos.2 hp).ne', one_mul, one_div]

/-- One row's share of an output column: the cotangent times the centred entry over the root. -/
def share (v w : Fin 1024 → EReal) (l : Fin 1024) : EReal := w l * centred v l * Ideal.rsqrt (spread v + eps)

/-- The same share as the reference groups and writes it. -/
theorem share_eq (v w : Fin 1024 → EReal) (l : Fin 1024) :
    w l * (centred v l * Ideal.div 1 (Ideal.sqrt (spread v + eps))) = share v w l := by
  rw [one_over_root (spread_nonneg v), ← mul_assoc, share]

end Cert.Row

end
-- ==== Proof.Block.lean ====
/-
# What one device computes from its block

The two rows a device writes before the exchange, read at a column: the shares of its 1024 rows added up, and its
cotangents added up.
-/
module

public import proofs.«01_k».proof.Proof.Row
public import proofs.«01_k».proof.Proof.Gen.KernelIdeal.Skeleton

@[expose] public section

set_option maxRecDepth 16384

noncomputable section

namespace Cert.KernelIdeal.Block

open Cert.KernelIdeal Cert.KernelIdeal.Gen
open Idealize.ShloMosaic Idealize.ShloMosaic.TcCoe
open scoped BigOperators

/-- The block less its rows' means, at a place: the row's centred entry. -/
theorem centred_at (x : Vec Ideal S1024x1024 .f32) (r l : Fin 1024) :
    k0_pay6 x (ix2 r l) = Row.centred (fun k => x (ix2 r k)) l := by
  pointwise [k0_pay6]
  rfl

/-- The reciprocal root spread along each row, at a place. -/
theorem root_at (x : Vec Ideal S1024x1024 .f32) (r l : Fin 1024) :
    k0_pay8 x (ix2 r l) = Ideal.rsqrt (Row.spread (fun k => x (ix2 r k)) + Row.eps) := by
  pointwise [k0_pay8, centred_at]
  rfl

/-- The cotangents times the centred block, at a place. -/
theorem product_at (x y : Vec Ideal S1024x1024 .f32) (r l : Fin 1024) :
    k0_pay7 x y (ix2 r l) = (show EReal from y (ix2 r l)) * Row.centred (fun k => x (ix2 r k)) l := by
  pointwise [k0_pay7, k0_pay5, centred_at]

/-- The first row before the exchange: the shares of the block's rows, added up. -/
theorem first_row (x y : Vec Ideal S1024x1024 .f32) (l : Fin 1024) :
    k0_pay2 (k0_pay7 x y) (k0_pay8 x) (ix2 0 l)
      = ∑ r : Fin 1024, Row.share (fun k => x (ix2 r k)) (fun k => y (ix2 r k)) l := by
  pointwise [k0_pay2, k0_pay1, product_at, root_at]
  rfl

/-- The second row before the exchange: the block's cotangents, added up. -/
theorem second_row (y : Vec Ideal S1024x1024 .f32) (l : Fin 1024) :
    k0_pay3 (k0_pay5 y) (ix2 0 l) = ∑ r : Fin 1024, (show EReal from y (ix2 r l)) := by
  pointwise [k0_pay3, k0_pay1, k0_pay5]

end Cert.KernelIdeal.Block

end
-- ==== Proof.Whole.lean ====
/-
# What the reference computes

The reference's result in named steps, and its two rows read at a column: the shares of all 2048 rows added up, and all
the cotangents added up.
-/
module

public import proofs.«01_k».proof.Proof.Row
public import proofs.«01_k».proof.Proof.Gen.ReferenceIdeal.Run

@[expose] public section

set_option maxRecDepth 16384

noncomputable section

namespace Cert.ReferenceIdeal.Whole

open Cert.ReferenceIdeal Cert.ReferenceIdeal.Gen
open Idealize.ShloMosaic Idealize.ShloMosaic.TcCoe Idealize.SL.Sem
open scoped BigOperators

/-- One number in every place of a one-column array. -/
def everyRow (b : FVec Ideal S_ .f32) : FVec Ideal S2048x1 .f32 := broadcastInDim S2048x1 ![] bcast_S_S2048x1 b

/-- A column laid along every row. -/
def along (v : FVec Ideal S2048x1 .f32) : FVec Ideal S2048x1024 .f32 :=
  broadcastInDim S2048x1024 ![0, 1] bcast_S2048x1_S2048x1024_0_1 v

/-- Each row's sum, as a column. -/
def rowSums (x : FVec Ideal S2048x1024 .f32) : FVec Ideal S2048x1 .f32 :=
  broadcastInDim S2048x1 ![0] bcast_S2048_S2048x1_0
    (Host.reduceAdd x (constant S_ .f32 0x00000000#32) reducesTo_S2048x1024_S2048_d1 h_S_)

/-- Each column's sum, as a row. -/
def columnSums (x : FVec Ideal S2048x1024 .f32) : FVec Ideal S1x1024 .f32 :=
  broadcastInDim S1x1024 ![1] bcast_S1024_S1x1024_1
    (Host.reduceAdd x (constant S_ .f32 0x00000000#32) reducesTo_S2048x1024_S1024_d0 h_S_)

/-- The array less its rows' means. -/
def lessMean (x : FVec Ideal S2048x1024 .f32) : FVec Ideal S2048x1024 .f32 :=
  subf x (along (Host.divf (rowSums x) (everyRow (constant S_ .f32 0x44800000#32))))

/-- The number the variance is divided by: the width less a correction of zero. -/
def divisor : FVec Ideal S_ .f32 := subf (constant S_ .f32 0x44800000#32) (sitofp .f32 (constantI S_ 32 0#32))

/-- Each row's variance, guarded on its divisor being positive. -/
def variance (x : FVec Ideal S2048x1024 .f32) : FVec Ideal S2048x1 .f32 :=
  select (broadcastInDim S2048x1 ![] bcast_S_S2048x1 (cmpf .ogt divisor (constant S_ .f32 0x00000000#32)))
    (Host.divf (rowSums (mulf (lessMean x) (lessMean x))) (everyRow divisor))
    (everyRow (id (constant S_ .f32 0x7FC00000#32)))

/-- One over the root of each row's variance plus the small constant. -/
def overRoot (x : FVec Ideal S2048x1024 .f32) : FVec Ideal S2048x1 .f32 :=
  Host.divf (everyRow (constant S_ .f32 0x3F800000#32))
    (Host.sqrt (addf (variance x) (everyRow (constant S_ .f32 0x3727C5AC#32))))

/-- The reference's result: the two rows, one above the other. -/
def gradients (x y : FVec Ideal S2048x1024 .f32) : FVec Ideal S2x1024 .f32 :=
  concatenate S2x1024 0 [⟨S1x1024, columnSums (mulf y (mulf (lessMean x) (along (overRoot x))))⟩, ⟨S1x1024, columnSums y⟩]
    concatenates_S1x1024_S1x1024_S2x1024_d0

/-- The array less its rows' means, at a place: the row's centred entry. -/
theorem lessMean_at (x : FVec Ideal S2048x1024 .f32) (r : Fin 2048) (l : Fin 1024) :
    lessMean x (ix2 r l) = Row.centred (fun k => x (ix2 r k)) l := by
  pointwise [lessMean, along, rowSums, everyRow]
  rfl

/-- The divisor is the width. -/
theorem divisor_at : divisor ix0 = Row.width := by
  pointwise [divisor]
  show Row.width - (((0#32 : BitVec 32).toInt : ℝ) : EReal) = Row.width
  simp

/-- Each row's variance is the mean of the squares of its centred entries: the guard holds. -/
theorem variance_at (x : FVec Ideal S2048x1024 .f32) (r : Fin 2048) :
    variance x (ix2 r 0) = Row.spread (fun k => x (ix2 r k)) := by
  have h : (0 : EReal) < Row.width := by rw [Row.width_eq]; exact_mod_cast (by norm_num : (0 : ℝ) < 1024)
  pointwise [variance, everyRow, rowSums, lessMean_at, divisor_at]
  rw [if_pos h]
  rfl

/-- One over the root, at a row. -/
theorem overRoot_at (x : FVec Ideal S2048x1024 .f32) (r : Fin 2048) :
    overRoot x (ix2 r 0) = Ideal.div 1 (Ideal.sqrt (Row.spread (fun k => x (ix2 r k)) + Row.eps)) := by
  pointwise [overRoot, everyRow, variance_at]
  rfl

/-- The result's first row: the shares of all the rows, added up. -/
theorem first_row (x y : FVec Ideal S2048x1024 .f32) (l : Fin 1024) :
    gradients x y (ix2 0 l) = ∑ r : Fin 2048, Row.share (fun k => x (ix2 r k)) (fun k => y (ix2 r k)) l := by
  pointwise [gradients, columnSums, along, lessMean_at, overRoot_at]
  exact Finset.sum_congr rfl fun r _ => Row.share_eq _ (fun k => y (ix2 r k)) l

/-- The result's second row: all the cotangents, added up. -/
theorem second_row (x y : FVec Ideal S2048x1024 .f32) (l : Fin 1024) :
    gradients x y (ix2 1 l) = ∑ r : Fin 2048, y (ix2 r l) := by
  pointwise [gradients, columnSums]

/-- The reference's run: its result array ends at `gradients` of its first two arguments, which it leaves unchanged, as
    it does the third. -/
theorem outcome (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
          = gradients (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  Cert.ReferenceIdeal.Value.run m ρ

end Cert.ReferenceIdeal.Whole

end
-- ==== Proof.Equation.lean ====
/-
# Two blocks make the whole

Device `c` holds rows `1024 (c / 4)` onwards of the whole arrays, and its partner across the first mesh axis holds the
other half. So what either has after the exchange is the sum over all 2048 rows, in one order or the other.
-/
module

public import proofs.«01_k».proof.Proof.Run
public import proofs.«01_k».proof.Proof.Block
public import proofs.«01_k».proof.Proof.Whole
public import Idealize.ShloMosaic.Lib.LayoutAt

@[expose] public section

set_option maxRecDepth 16384

noncomputable section

namespace Cert.Equation

open Idealize.ShloMosaic Idealize.ShloMosaic.TcCoe
open Cert.KernelIdeal.Exchange (peer partials result xIn dyIn xIn_eq dyIn_eq)
open Cert.KernelIdeal (nD)
open scoped BigOperators

/-- The row of the whole array that is row `r` of device `c`'s block. -/
def rowOf (c : Dev nD) (r : Fin 1024) : Fin 2048 := ⟨c.val / 4 * 1024 + r.val, by
  have h : c.val < 8 := c.isLt
  omega⟩

/-- Device `c`'s block of a whole array, at a place. -/
theorem block_at {α : Type} (X : (⟨2, ![2048, 1024]⟩ : Shape).Idx → α) (c : Dev nD) (r l : Fin 1024) :
    (Layout.blockN ⟨2, ![1024, 1024]⟩ ⟨2, ![2048, 1024]⟩ (Layout.meshBlock [2, 2, 2] ![[0], []] c) X) (ix2 r l)
      = X (ix2 (rowOf c r) l) := by
  have hc : c.val < 8 := c.isLt
  refine congrArg X (funext fun a => Fin.ext ?_)
  match a with
  | ⟨0, _⟩ =>
    show ((c.val / 4 % 2) * 1 + 0) * 1024 + r.val = c.val / 4 * 1024 + r.val
    omega
  | ⟨1, _⟩ =>
    show 0 * 1024 + l.val = l.val
    omega

/-- A sum over all the rows, split into a device's rows and its partner's. -/
theorem split_rows (c : Dev nD) (f : Fin 2048 → EReal) :
    ∑ r : Fin 2048, f r = ∑ r : Fin 1024, f (rowOf c r) + ∑ r : Fin 1024, f (rowOf (peer c) r) := by
  have hc : c.val < 8 := c.isLt
  have hp : (peer c).val = (c.val + 4) % 8 := rfl
  rw [Fin.sum_univ_two_halves 1024 1024 rfl f]
  by_cases h : c.val < 4
  · refine congrArg₂ (· + ·) (Finset.sum_congr rfl fun r _ => congrArg f (Fin.ext ?_))
      (Finset.sum_congr rfl fun r _ => congrArg f (Fin.ext ?_)) <;> simp only [rowOf, hp] <;> omega
  · rw [add_comm]
    refine congrArg₂ (· + ·) (Finset.sum_congr rfl fun r _ => congrArg f (Fin.ext ?_))
      (Finset.sum_congr rfl fun r _ => congrArg f (Fin.ext ?_)) <;> simp only [rowOf, hp] <;> omega

variable (m : (ℓ : Loc Cert.KernelIdeal.nD Cert.KernelIdeal.τ Cert.KernelIdeal.sig) → Buf (Elt Ideal) ℓ)
variable (X Y : FVec Ideal ⟨2, ![2048, 1024]⟩ .f32)

/-- Every device's first two arguments are its blocks of the whole arrays `X` and `Y`. -/
def Holds : Prop := ∀ c : Dev nD,
  m ((c.tc : Thread Cert.KernelIdeal.nD Cert.KernelIdeal.τ).loc Cert.KernelIdeal.main_arg0)
      = Layout.blockN ⟨2, ![1024, 1024]⟩ ⟨2, ![2048, 1024]⟩ (Layout.meshBlock [2, 2, 2] ![[0], []] c) X
    ∧ m ((c.tc : Thread Cert.KernelIdeal.nD Cert.KernelIdeal.τ).loc Cert.KernelIdeal.main_arg1)
      = Layout.blockN ⟨2, ![1024, 1024]⟩ ⟨2, ![2048, 1024]⟩ (Layout.meshBlock [2, 2, 2] ![[0], []] c) Y

variable {m X Y}

/-- A device's first staged block, at a place. -/
theorem x_at (h : Holds m X Y) (c : Dev nD) (r l : Fin 1024) : xIn m c (ix2 r l) = X (ix2 (rowOf c r) l) := by
  rw [xIn_eq, (h c).1]
  exact block_at X c r l

/-- A device's second staged block, at a place. -/
theorem dy_at (h : Holds m X Y) (c : Dev nD) (r l : Fin 1024) : dyIn m c (ix2 r l) = Y (ix2 (rowOf c r) l) := by
  rw [dyIn_eq, (h c).2]
  exact block_at Y c r l

/-- A device's first row before the exchange, in the whole arrays' terms. -/
theorem partials_first (h : Holds m X Y) (c : Dev nD) (l : Fin 1024) : partials m c (ix2 0 l)
    = ∑ r : Fin 1024, Row.share (fun k => X (ix2 (rowOf c r) k)) (fun k => Y (ix2 (rowOf c r) k)) l := by
  refine (Cert.KernelIdeal.Block.first_row (xIn m c) (dyIn m c) l).trans (Finset.sum_congr rfl fun r _ => ?_)
  exact congrArg₂ (Row.share · · l) (funext fun k => x_at h c r k) (funext fun k => dy_at h c r k)

/-- A device's second row before the exchange, in the whole arrays' terms. -/
theorem partials_second (h : Holds m X Y) (c : Dev nD) (l : Fin 1024) :
    partials m c (ix2 1 l) = ∑ r : Fin 1024, Y (ix2 (rowOf c r) l) :=
  (Cert.KernelIdeal.Block.second_row (dyIn m c) l).trans (Finset.sum_congr rfl fun r _ => dy_at h c r l)

/-- What every device ends with is what the reference computes from the whole arrays. -/
theorem result_eq (h : Holds m X Y) (c : Dev nD) : result m c = Cert.ReferenceIdeal.Whole.gradients X Y := by
  have at0 (l : Fin 1024) : result m c (ix2 0 l) = Cert.ReferenceIdeal.Whole.gradients X Y (ix2 0 l) := by
    rw [Cert.ReferenceIdeal.Whole.first_row, split_rows c, ← partials_first h c l, ← partials_first h (peer c) l]
    rfl
  have at1 (l : Fin 1024) : result m c (ix2 1 l) = Cert.ReferenceIdeal.Whole.gradients X Y (ix2 1 l) := by
    rw [Cert.ReferenceIdeal.Whole.second_row, split_rows c, ← partials_second h c l, ← partials_second h (peer c) l]
    rfl
  have both (a : Fin 2) (l : Fin 1024) :
      result m c (ix2 a l) = Cert.ReferenceIdeal.Whole.gradients X Y (ix2 a l) :=
    match a with
    | 0 => at0 l
    | 1 => at1 l
  funext i
  exact (congrArg (result m c) (eq_ix2 i)).trans
    ((both (i 0) (i 1)).trans (congrArg (Cert.ReferenceIdeal.Whole.gradients X Y) (eq_ix2 i).symm))

end Cert.Equation

end
-- ==== Proof.lean ====
/-
# The certificate

The three frames, the idealization (nothing was rewritten, so nothing is asked), and the value: on every device the
kernel's result array ends at what the reference computes from the whole arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equation

@[expose] public section

noncomputable section

namespace Cert.Proof

open Idealize.ShloMosaic Idealize.SL.Sem

/-- From memories in which each device holds its blocks of the reference's arrays, both programs run; the reference ends
    with the two gradients of the whole arrays, and every device of the kernel ends with the same two rows. -/
theorem value : Cert.algebraic_KernelIdeal_ReferenceIdeal := fun m g m' g' _ hm =>
  ⟨Cert.ReferenceIdeal.Whole.gradients _ _,
    (θ_run _ _ _).mono
      (fun _ h c => ⟨(h.1 c).1.trans (Cert.Equation.result_eq (fun c => ⟨(hm c).1, (hm c).2.1⟩) c), (h.1 c).2⟩)
      (Cert.KernelIdeal.Exchange.outcome m g),
    (θ_run _ _ _).mono (fun _ h => h 0) (Cert.ReferenceIdeal.Whole.outcome m' g')⟩

/-- Every claim of this certificate. -/
theorem claim : Cert.Claim :=
  ⟨Cert.Kernel.Gen.facts, Cert.KernelIdeal.Gen.facts, Cert.ReferenceIdeal.Gen.facts,
    kernel_frame, ideal_frame, reference_frame, trivial, value⟩

end Cert.Proof

end
